-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x13696 : Shape := ⟨3, ![32, 1, 13696]⟩
abbrev S32x1x1 : Shape := ⟨3, ![32, 1, 1]⟩
abbrev S13696x4096 : Shape := ⟨2, ![13696, 4096]⟩
abbrev S4096 : Shape := ⟨1, ![4096]⟩
abbrev S32x1x4096 : Shape := ⟨3, ![32, 1, 4096]⟩
abbrev S32x13696 : Shape := ⟨2, ![32, 13696]⟩
abbrev S32x1 : Shape := ⟨2, ![32, 1]⟩
abbrev S1x4096 : Shape := ⟨2, ![1, 4096]⟩
abbrev S32x4096 : Shape := ⟨2, ![32, 4096]⟩
abbrev S13696x512 : Shape := ⟨2, ![13696, 512]⟩
abbrev S1x512 : Shape := ⟨2, ![1, 512]⟩
abbrev S32x512 : Shape := ⟨2, ![32, 512]⟩

abbrev nBuf : Space → Nat
  | .hbm => 11
  | .vmem => 10
  | .smem => 0
  | _ => 0

abbrev bufTy : (tb : Table) → Fin (tcTables nBuf tb) → BufTy
  | .hbm, ⟨0, _⟩ => ⟨S32x1x13696, .fp8e4m3⟩
  | .hbm, ⟨1, _⟩ => ⟨S32x1x1, .f32⟩
  | .hbm, ⟨2, _⟩ => ⟨S13696x4096, .fp8e4m3⟩
  | .hbm, ⟨3, _⟩ => ⟨S4096, .f32⟩
  | .hbm, ⟨4, _⟩ => ⟨S32x1x4096, .bf16⟩
  | .hbm, ⟨5, _⟩ => ⟨S32x13696, .fp8e4m3⟩
  | .hbm, ⟨6, _⟩ => ⟨S32x1, .f32⟩
  | .hbm, ⟨7, _⟩ => ⟨S1x4096, .f32⟩
  | .hbm, ⟨8, _⟩ => ⟨S32x4096, .bf16⟩
  | .hbm, ⟨9, _⟩ => ⟨S32x4096, .bf16⟩
  | .hbm, ⟨10, _⟩ => ⟨S32x1x4096, .bf16⟩
  | .local _ .vmem, ⟨0, _⟩ => ⟨S32x13696, .fp8e4m3⟩
  | .local _ .vmem, ⟨1, _⟩ => ⟨S32x1, .f32⟩
  | .local _ .vmem, ⟨2, _⟩ => ⟨S13696x512, .fp8e4m3⟩
  | .local _ .vmem, ⟨3, _⟩ => ⟨S13696x512, .fp8e4m3⟩
  | .local _ .vmem, ⟨4, _⟩ => ⟨S1x512, .f32⟩
  | .local _ .vmem, ⟨5, _⟩ => ⟨S1x512, .f32⟩
  | .local _ .vmem, ⟨6, _⟩ => ⟨S32x512, .bf16⟩
  | .local _ .vmem, ⟨7, _⟩ => ⟨S32x512, .bf16⟩
  | .local _ .vmem, ⟨8, _⟩ => ⟨S32x512, .bf16⟩
  | .local _ .vmem, ⟨9, _⟩ => ⟨S32x512, .bf16⟩
  | _, _ => ⟨S32x1x13696, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x13696 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S13696x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S32x1x13696 : Shape := ⟨3, ![32, 1, 13696]⟩
abbrev S32x1x1 : Shape := ⟨3, ![32, 1, 1]⟩
abbrev S13696x4096 : Shape := ⟨2, ![13696, 4096]⟩
abbrev S4096 : Shape := ⟨1, ![4096]⟩
abbrev S32x1x4096 : Shape := ⟨3, ![32, 1, 4096]⟩
abbrev S1x1x4096 : Shape := ⟨3, ![1, 1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S32x1x13696, .fp8e4m3⟩
  | .hbm, ⟨1, _⟩ => ⟨S32x1x1, .f32⟩
  | .hbm, ⟨2, _⟩ => ⟨S13696x4096, .fp8e4m3⟩
  | .hbm, ⟨3, _⟩ => ⟨S4096, .f32⟩
  | .hbm, ⟨4, _⟩ => ⟨S32x1x4096, .bf16⟩
  | .hbm, ⟨5, _⟩ => ⟨S32x1x4096, .bf16⟩
  | .local _ .vmem, ⟨0, _⟩ => ⟨S32x1x13696, .fp8e4m3⟩
  | .local _ .vmem, ⟨1, _⟩ => ⟨S32x1x1, .f32⟩
  | .local _ .vmem, ⟨2, _⟩ => ⟨S13696x4096, .fp8e4m3⟩
  | .local _ .vmem, ⟨3, _⟩ => ⟨S4096, .f32⟩
  | .local _ .vmem, ⟨4, _⟩ => ⟨S32x1x4096, .bf16⟩
  | .local _ .vmem, ⟨5, _⟩ => ⟨S32x1x4096, .bf16⟩
  | _, _ => ⟨S32x1x13696, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x1x13696 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S13696x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/-
  Hand-written, untrusted. The mathematics that both programs are shown to compute: one entry of the down projection with
  residual, as an extended real, of the operands given by their coordinates.
-/
module

public import Idealize.ShloMosaic.Lib.Pointwise

@[expose] public section

noncomputable section

namespace Cert.DownProj

/-- Entry `(r, n)` of the result: the dot product of row `r` of the codes `x` with column `n` of the codes `w`, times the
    scale of the row, times the scale of the column, plus the residual. -/
def entry (x : Fin 32 → Fin 13696 → EReal) (xs : Fin 32 → EReal) (w : Fin 13696 → Fin 4096 → EReal) (ws : Fin 4096 → EReal)
    (res : Fin 32 → Fin 4096 → EReal) (r : Fin 32) (n : Fin 4096) : EReal :=
  (∑ k : Fin 13696, x r k * w k n) * xs r * ws n + res r n

end Cert.DownProj

end
-- ==== Proof.KernelBlock.lean ====
/-
  Hand-written, untrusted. WHAT ONE GRID POINT OF THE KERNEL COMPUTES, at the ideal instance: the body's output block, entry by
  entry, of the five blocks it loads.
-/
module

public import proofs.«01_k».proof.Proof.Gen.KernelIdeal.Frame
public import Idealize.ShloMosaic.Lib.Pipeline.Value
public import proofs.«01_k».proof.Proof.Spec

@[expose] public section

set_option maxRecDepth 16384

noncomputable section

namespace Cert.KernelIdeal.Block

open Cert.KernelIdeal Cert.KernelIdeal.Gen Idealize.ShloMosaic

theorem hz : (![0, 0] : Fin 2 → Nat) = fun _ => 0 := funext fun a => by fin_cases a <;> rfl

/-- The body loads its five blocks whole and stores its payload over the whole output block, at any float instance. -/
theorem out_eq {F : FTy → Type} [FloatOps F] (b0 : Vec F S32x13696 .fp8e4m3) (b1 : Vec F S32x1 .f32) (b2 : Vec F S13696x512 .fp8e4m3)
    (b3 : Vec F S1x512 .f32) (b4 : Vec F S32x512 .bf16) :
    out0_5 (F := F) b0 b1 b2 b3 b4 = k0_pay1 b0 b2 b1 b3 b4 := by
  unfold out0_5
  rw [View.canon_unit_zero hz, View.ld_unit_zero (S := S32x13696) hz, View.ld_unit_zero (S := S32x1) hz,
    View.ld_unit_zero (S := S13696x512) hz, View.ld_unit_zero (S := S1x512) hz, View.ld_unit_zero (S := S32x512) hz]

/-- Entry `(r, q)` of the output block: row `r` of the first block times column `q` of the weights' block, times the two
    scales, plus the residual's block. -/
theorem out_apply (b0 : Vec Ideal S32x13696 .fp8e4m3) (b1 : Vec Ideal S32x1 .f32) (b2 : Vec Ideal S13696x512 .fp8e4m3)
    (b3 : Vec Ideal S1x512 .f32) (b4 : Vec Ideal S32x512 .bf16) (r : Fin 32) (q : Fin 512) :
    out0_5 (F := Ideal) b0 b1 b2 b3 b4 (ix2 r q)
      = ((∑ k : Fin 13696, (b0 (ix2 r k) : EReal) * b2 (ix2 k q)) * b1 (ix2 r 0) * b3 (ix2 0 q) + b4 (ix2 r q) : EReal) := by
  rw [out_eq]
  pointwise [k0_pay1]

end Cert.KernelIdeal.Block

end
-- ==== Proof.KernelValue.lean ====
/-
  Hand-written, untrusted. WHAT THE KERNEL COMPUTES, at the ideal instance: the arrays its pallas_call reads are the arguments
  reshaped, point `t` of the grid writes columns `512 t … 512 t + 511` of one whole-array function, the eight blocks tile the
  array, and the last reshape gives the result its three axes.
-/
module

public import proofs.«01_k».proof.Proof.KernelBlock

@[expose] public section

set_option maxRecDepth 16384

noncomputable section

namespace Cert.KernelIdeal.Entry

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The whole-array function -/

/-- Entry `(r, n)` of the result, of the five arguments as launched. -/
def entryOf (a0 : Vec Ideal S32x1x13696 .fp8e4m3) (a1 : Vec Ideal S32x1x1 .f32) (a2 : Vec Ideal S13696x4096 .fp8e4m3)
    (a3 : Vec Ideal S4096 .f32) (a4 : Vec Ideal S32x1x4096 .bf16) (r : Fin 32) (n : Fin 4096) : EReal :=
  DownProj.entry (fun r k => a0 (ix3 r 0 k)) (fun r => a1 (ix3 r 0 0)) (fun k n => a2 (ix2 k n)) (fun n => a3 (ix1 n))
    (fun r n => a4 (ix3 r 0 n)) r n

/-- The array that the pallas_call returns, of the five arguments. -/
def flat (a0 : Vec Ideal S32x1x13696 .fp8e4m3) (a1 : Vec Ideal S32x1x1 .f32) (a2 : Vec Ideal S13696x4096 .fp8e4m3)
    (a3 : Vec Ideal S4096 .f32) (a4 : Vec Ideal S32x1x4096 .bf16) : Vec Ideal S32x4096 .bf16 :=
  fun i => entryOf a0 a1 a2 a3 a4 (i 0) (i 1)

/-! ## The arrays the pallas_call reads -/

/-- The codes `x` without their unit axis. -/
theorem V_v0 (c : Dev nD) (r : Fin 32) (k : Fin 13696) :
    V m c main_v0 (ix2 r k) = m ((c : Thread nD τ).loc main_arg0) (ix3 r 0 k) := by
  show StableHlo.after [hostOps0].flatten _ _ _ = _
  simp only [hostOps0, List.flatten_cons, List.flatten_nil, List.append_nil]
  after_results
  pointwise
/-- The row scales without one of their unit axes. -/
theorem V_v1 (c : Dev nD) (r : Fin 32) : V m c main_v1 (ix2 r 0) = m ((c : Thread nD τ).loc main_arg1) (ix3 r 0 0) := by
  show StableHlo.after [hostOps0].flatten _ _ _ = _
  simp only [hostOps0, List.flatten_cons, List.flatten_nil, List.append_nil]
  after_results
  pointwise
/-- The column scales as one row. -/
theorem V_v2 (c : Dev nD) (n : Fin 4096) : V m c main_v2 (ix2 0 n) = m ((c : Thread nD τ).loc main_arg3) (ix1 n) := by
  show StableHlo.after [hostOps0].flatten _ _ _ = _
  simp only [hostOps0, List.flatten_cons, List.flatten_nil, List.append_nil]
  after_results
  pointwise
/-- The residual without its unit axis. -/
theorem V_v3 (c : Dev nD) (r : Fin 32) (n : Fin 4096) :
    V m c main_v3 (ix2 r n) = m ((c : Thread nD τ).loc main_arg4) (ix3 r 0 n) := by
  show StableHlo.after [hostOps0].flatten _ _ _ = _
  simp only [hostOps0, List.flatten_cons, List.flatten_nil, List.append_nil]
  after_results
  pointwise

/-! ## The windows' blocks -/

/-- The block index of every window at every point of the grid, in closed form. -/
theorem idx (t : Fin cfg0.N) :
    (win0_0.index t (0 : Fin 2) = 0 ∧ win0_0.index t (1 : Fin 2) = 0) ∧ (win0_1.index t (0 : Fin 2) = 0 ∧ win0_1.index t (1 : Fin 2) = 0)
      ∧ (win0_2.index t (0 : Fin 2) = 0 ∧ win0_2.index t (1 : Fin 2) = t.val) ∧ (win0_3.index t (0 : Fin 2) = 0 ∧ win0_3.index t (1 : Fin 2) = t.val)
      ∧ (win0_4.index t (0 : Fin 2) = 0 ∧ win0_4.index t (1 : Fin 2) = t.val) ∧ (win0_5.index t (0 : Fin 2) = 0 ∧ win0_5.index t (1 : Fin 2) = t.val) :=
  (by decide +kernel : ∀ t : Fin grid0.N,
    (win0_0.index t (0 : Fin 2) = 0 ∧ win0_0.index t (1 : Fin 2) = 0) ∧ (win0_1.index t (0 : Fin 2) = 0 ∧ win0_1.index t (1 : Fin 2) = 0)
      ∧ (win0_2.index t (0 : Fin 2) = 0 ∧ win0_2.index t (1 : Fin 2) = t.val) ∧ (win0_3.index t (0 : Fin 2) = 0 ∧ win0_3.index t (1 : Fin 2) = t.val)
      ∧ (win0_4.index t (0 : Fin 2) = 0 ∧ win0_4.index t (1 : Fin 2) = t.val) ∧ (win0_5.index t (0 : Fin 2) = 0 ∧ win0_5.index t (1 : Fin 2) = t.val)) t

/-- Column `q` of block `t` is column `512 t + q` of the array. -/
def col (t : Fin cfg0.N) (q : Fin 512) : Fin 4096 :=
  ⟨t.val * 512 + q.val, by have h : t.val < 8 := lt_of_lt_of_eq t.isLt N_0; omega⟩

/-- Every point's block of the codes is all of them. -/
theorem iblk0 (c : Dev nD) (t : Fin cfg0.N) (r : Fin 32) (k : Fin 13696) : iblk m c 0 t (ix2 r k) = V m c main_v0 (ix2 r k) := by
  obtain ⟨⟨e0, e1⟩, -⟩ := idx t
  show V m c main_v0 (((cfg0.win 0).blk t).view.emb (ix2 r k)) = _
  congr 1; funext a; apply Fin.ext
  match a with
  | ⟨0, _⟩ => show win0_0.index t (0 : Fin 2) * 32 + 1 * r.val = r.val; omega
  | ⟨1, _⟩ => show win0_0.index t (1 : Fin 2) * 13696 + 1 * k.val = k.val; omega
/-- Every point's block of the row scales is all of them. -/
theorem iblk1 (c : Dev nD) (t : Fin cfg0.N) (r : Fin 32) : iblk m c 1 t (ix2 r 0) = V m c main_v1 (ix2 r 0) := by
  obtain ⟨-, ⟨e0, e1⟩, -⟩ := idx t
  show V m c main_v1 (((cfg0.win 1).blk t).view.emb (ix2 r 0)) = _
  congr 1; funext a; apply Fin.ext
  match a with
  | ⟨0, _⟩ => show win0_1.index t (0 : Fin 2) * 32 + 1 * r.val = r.val; omega
  | ⟨1, _⟩ => show win0_1.index t (1 : Fin 2) * 1 + 1 * 0 = 0; omega
/-- Point `t`'s block of the weights: columns `512 t` and on. -/
theorem iblk2 (c : Dev nD) (t : Fin cfg0.N) (k : Fin 13696) (q : Fin 512) :
    iblk m c 2 t (ix2 k q) = V m c main_arg2 (ix2 k (col t q)) := by
  obtain ⟨-, -, ⟨e0, e1⟩, -⟩ := idx t
  show V m c main_arg2 (((cfg0.win 2).blk t).view.emb (ix2 k q)) = _
  congr 1; funext a; apply Fin.ext
  match a with
  | ⟨0, _⟩ => show win0_2.index t (0 : Fin 2) * 13696 + 1 * k.val = k.val; omega
  | ⟨1, _⟩ => show win0_2.index t (1 : Fin 2) * 512 + 1 * q.val = t.val * 512 + q.val; omega
/-- Point `t`'s block of the column scales. -/
theorem iblk3 (c : Dev nD) (t : Fin cfg0.N) (q : Fin 512) : iblk m c 3 t (ix2 0 q) = V m c main_v2 (ix2 0 (col t q)) := by
  obtain ⟨-, -, -, ⟨e0, e1⟩, -⟩ := idx t
  show V m c main_v2 (((cfg0.win 3).blk t).view.emb (ix2 0 q)) = _
  congr 1; funext a; apply Fin.ext
  match a with
  | ⟨0, _⟩ => show win0_3.index t (0 : Fin 2) * 1 + 1 * 0 = 0; omega
  | ⟨1, _⟩ => show win0_3.index t (1 : Fin 2) * 512 + 1 * q.val = t.val * 512 + q.val; omega
/-- Point `t`'s block of the residual. -/
theorem iblk4 (c : Dev nD) (t : Fin cfg0.N) (r : Fin 32) (q : Fin 512) :
    iblk m c 4 t (ix2 r q) = V m c main_v3 (ix2 r (col t q)) := by
  obtain ⟨-, -, -, -, ⟨e0, e1⟩, -⟩ := idx t
  show V m c main_v3 (((cfg0.win 4).blk t).view.emb (ix2 r q)) = _
  congr 1; funext a; apply Fin.ext
  match a with
  | ⟨0, _⟩ => show win0_4.index t (0 : Fin 2) * 32 + 1 * r.val = r.val; omega
  | ⟨1, _⟩ => show win0_4.index t (1 : Fin 2) * 512 + 1 * q.val = t.val * 512 + q.val; omega
/-- Where point `t`'s output block lies in its array. -/
theorem emb5 (t : Fin cfg0.N) (r : Fin 32) (q : Fin 512) :
    ((cfg0.win 5).blk t).view.emb (ix2 r q) = (ix2 r (col t q) : S32x4096.Idx) := by
  obtain ⟨-, -, -, -, -, ⟨e0, e1⟩⟩ := idx t
  funext a; apply Fin.ext
  match a with
  | ⟨0, _⟩ => show win0_5.index t (0 : Fin 2) * 32 + 1 * r.val = r.val; omega
  | ⟨1, _⟩ => show win0_5.index t (1 : Fin 2) * 512 + 1 * q.val = t.val * 512 + q.val; omega

/-! ## The array that the pallas_call returns -/

/-- `flat` of core `c`'s arguments as launched. -/
abbrev flatAt (c : Dev nD) : Vec Ideal S32x4096 .bf16 :=
  flat (m ((c : Thread nD τ).loc main_arg0)) (m ((c : Thread nD τ).loc main_arg1)) (m ((c : Thread nD τ).loc main_arg2))
    (m ((c : Thread nD τ).loc main_arg3)) (m ((c : Thread nD τ).loc main_arg4))

/-- What point `t` leaves at entry `(r, q)` of the output block is entry `(r, 512 t + q)` of the whole array. -/
theorem out_at (c : Dev nD) (t : Fin cfg0.N) (r : Fin 32) (q : Fin 512) :
    out0_5 (F := Ideal) (iblk m c 0 t) (iblk m c 1 t) (iblk m c 2 t) (iblk m c 3 t) (iblk m c 4 t) (ix2 r q)
      = flatAt m c (ix2 r (col t q)) := by
  refine (Block.out_apply _ _ _ _ _ r q).trans ?_
  rw [iblk1, iblk3, iblk4, V_v1, V_v2, V_v3]
  rw [Finset.sum_congr rfl fun k _ => congrArg₂ (fun a b : EReal => a * b) ((iblk0 m c t r k).trans (V_v0 m c r k))
    ((iblk2 m c t k q).trans (congrFun (V_main_arg2 m c) (ix2 k (col t q))))]
  unfold flatAt flat entryOf DownProj.entry
  rfl

/-- What point `t` writes back is its block of `flat` of the arguments. -/
theorem flushed_eq (c : Dev nD) (t : Fin cfg0.N) :
    (dats m 0 c).flushed 5 t = ((cfg0.win 5).blk t).view.read (Elt Ideal) (flatAt m c) := by
  show (cfg0.win 5).cut (grid0.coords t) ((dats m 0 c).after 5 t) = _
  rw [after0_5]
  funext (j : S32x512.Idx)
  idx_vars j
  show out0_5 (F := Ideal) (iblk m c 0 t) (iblk m c 1 t) (iblk m c 2 t) (iblk m c 3 t) (iblk m c 4 t) (ix2 _ _)
    = flatAt m c (((cfg0.win 5).blk t).view.emb (ix2 _ _))
  rw [emb5, out_at]

/-- The blocks tile the array: column `n` is column `n % 512` of block `n / 512`. -/
theorem cover (i : S32x4096.Idx) : ∃ t : Fin cfg0.N, (cfg0.win 5).flush t = true ∧ i ∈ ((cfg0.win 5).blk t).view.set := by
  obtain ⟨r, n, rfl⟩ : ∃ (r : Fin 32) (n : Fin 4096), i = ix2 r n := ⟨i 0, i 1, by funext a; match a with | ⟨0, _⟩ => rfl | ⟨1, _⟩ => rfl⟩
  have hn : n.val / 512 < cfg0.N := by show _ < grid0.N; rw [N_0]; omega
  have hq : n.val % 512 < 512 := Nat.mod_lt _ (by decide)
  refine ⟨⟨n.val / 512, hn⟩, flush0_5 _, ?_⟩
  have h := ((cfg0.win 5).blk (⟨n.val / 512, hn⟩ : Fin cfg0.N)).view.emb_mem_set (ix2 r ⟨n.val % 512, hq⟩)
  rw [emb5] at h
  have e : col ⟨n.val / 512, hn⟩ ⟨n.val % 512, hq⟩ = n := Fin.ext (by show n.val / 512 * 512 + n.val % 512 = n.val; omega)
  rwa [e] at h

/-- So the array that the pallas_call returns ends holding `flat` of the arguments. -/
theorem final (c : Dev nD) : (dats m 0 c).arrAt 5 cfg0.N = flatAt m c :=
  (dats m 0 c).arrAt_eq_of_cover 5 (flatAt m c) (fun t _ => flushed_eq m c t) cover

/-! ## The result, after the last reshape -/

/-- The result array: entry `(r, 0, n)` is `entryOf` of the arguments at `(r, n)`. -/
def result (a0 : Vec Ideal S32x1x13696 .fp8e4m3) (a1 : Vec Ideal S32x1x1 .f32) (a2 : Vec Ideal S13696x4096 .fp8e4m3)
    (a3 : Vec Ideal S4096 .f32) (a4 : Vec Ideal S32x1x4096 .bf16) : Vec Ideal S32x1x4096 .bf16 :=
  fun i => entryOf a0 a1 a2 a3 a4 (i 0) (i 2)

/-- Giving `flat` its unit axis back is `result`. -/
theorem reshape_flat (a0 : Vec Ideal S32x1x13696 .fp8e4m3) (a1 : Vec Ideal S32x1x1 .f32) (a2 : Vec Ideal S13696x4096 .fp8e4m3)
    (a3 : Vec Ideal S4096 .f32) (a4 : Vec Ideal S32x1x4096 .bf16) :
    shapeCast S32x1x4096 (flat a0 a1 a2 a3 a4) Facts₀.shapeCasts_S32x4096_S32x1x4096 = result a0 a1 a2 a3 a4 := by
  funext i
  idx_vars i
  pointwise [flat, result]

/-- What the host leaves in the result array after the pallas_call. -/
theorem tail (c : Dev nD) :
    Pipeline.afterTail₀ cfgs (dats m) 0 (V0 m) [hostOps1] c main_v5
      = shapeCast S32x1x4096 ((dats m 0 c).arrAt 5 cfg0.N) Facts₀.shapeCasts_S32x4096_S32x1x4096 := by
  unfold Pipeline.afterTail₀
  have h := Pipeline.withArrays_arr spec0 launch0.win.arr_inj c (V0 m c) (fun w => (dats m 0 c).arrAt w cfg0.N) 5
  simp only [hostOps1, List.flatten_cons, List.flatten_nil, List.append_nil]
  after_results
  exact congrArg (fun A : Vec Ideal S32x4096 .bf16 => shapeCast S32x1x4096 A Facts₀.shapeCasts_S32x4096_S32x1x4096) h

/-- THE RUN: the result array ends at `result` of the arguments, and the arguments end unchanged. -/
theorem run : θ_run (defs (F := Ideal)) (onTc (τ := τ) (main (F := Ideal))) ⟨m, fun _ => 0, ρ⟩ fun r => ∀ c : Dev nD,
      r.2.mem ((c.tc : Thread nD τ).loc main_v5)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, h.2 c⟩) (θ_run_and (run_main m ρ) (unchanged m ρ))
  refine ((h.1 c).2 main_v5 (Pipeline.mem_restRefs_of main_v5 (by decide) (by decide))).trans ?_
  rw [tail, final, reshape_flat]

end Cert.KernelIdeal.Entry

end
-- ==== Proof.RefValue.lean ====
/-
  Hand-written, untrusted. WHAT THE REFERENCE COMPUTES, at the ideal instance: each entry of its result array is
  `DownProj.entry` of its arguments.
-/
module

public import proofs.«01_k».proof.Proof.Gen.ReferenceIdeal.Value
public import proofs.«01_k».proof.Proof.Spec

@[expose] public section

set_option maxRecDepth 16384

noncomputable section

namespace Cert.ReferenceIdeal.Entry

open Cert.ReferenceIdeal Cert.ReferenceIdeal.Gen Idealize.ShloMosaic

/-- Entry `(r, u, n)` of the reference's result (its middle axis has the one coordinate `u = 0`) is the down projection's. -/
theorem G5_apply (a0 : Vec Ideal S32x1x13696 .fp8e4m3) (a1 : Vec Ideal S32x1x1 .f32) (a2 : Vec Ideal S13696x4096 .fp8e4m3)
    (a3 : Vec Ideal S4096 .f32) (a4 : Vec Ideal S32x1x4096 .bf16) (r : Fin 32) (u : Fin 1) (n : Fin 4096) :
    Value.G5 (F := Ideal) a0 a1 a2 a3 a4 (ix3 r u n)
      = DownProj.entry (fun r k => a0 (ix3 r 0 k)) (fun r => a1 (ix3 r 0 0)) (fun k n => a2 (ix2 k n)) (fun n => a3 (ix1 n))
          (fun r n => a4 (ix3 r 0 n)) r n := by
  obtain rfl : u = 0 := Subsingleton.elim _ _
  pointwise [Value.G5, k0_pay1, DownProj.entry]

end Cert.ReferenceIdeal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.SL.Sem Cert.Kernel

/-- The kernel's result array and the reference's are the same function of the five arguments. -/
theorem result_eq (a0 : Vec Ideal Cert.KernelIdeal.S32x1x13696 .fp8e4m3) (a1 : Vec Ideal Cert.KernelIdeal.S32x1x1 .f32)
    (a2 : Vec Ideal Cert.KernelIdeal.S13696x4096 .fp8e4m3) (a3 : Vec Ideal Cert.KernelIdeal.S4096 .f32)
    (a4 : Vec Ideal Cert.KernelIdeal.S32x1x4096 .bf16) :
    Cert.ReferenceIdeal.Value.G5 (F := Ideal) a0 a1 a2 a3 a4 = Cert.KernelIdeal.Entry.result a0 a1 a2 a3 a4 := by
  funext i
  idx_vars i
  exact Cert.ReferenceIdeal.Entry.G5_apply a0 a1 a2 a3 a4 _ _ _

/-- From arguments that agree, both programs end with their result array at `Entry.result` of the arguments. -/
theorem algebraic : Cert.algebraic_KernelIdeal_ReferenceIdeal := by
  intro m g m' g' _ hargs
  refine ⟨fun c => Cert.KernelIdeal.Entry.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Entry.run m g, ?_⟩
  refine (θ_run _ _ _).mono (fun r h c => ⟨(h c).1.trans ?_, (h c).2⟩) (Cert.ReferenceIdeal.Value.run m' g')
  obtain ⟨h0, h1, h2, h3, h4⟩ := hargs c
  rw [h0, h1, h2, h3, h4]
  exact result_eq _ _ _ _ _

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
